-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x13824 : Shape := ⟨3, ![6, 2048, 13824]⟩
abbrev S6x2048x1 : Shape := ⟨3, ![6, 2048, 1]⟩
abbrev S13824x5120 : Shape := ⟨2, ![13824, 5120]⟩
abbrev S5120 : Shape := ⟨1, ![5120]⟩
abbrev S6x2048x5120 : Shape := ⟨3, ![6, 2048, 5120]⟩
abbrev S12288x13824 : Shape := ⟨2, ![12288, 13824]⟩
abbrev S12288x1 : Shape := ⟨2, ![12288, 1]⟩
abbrev S1x5120 : Shape := ⟨2, ![1, 5120]⟩
abbrev S12288x5120 : Shape := ⟨2, ![12288, 5120]⟩
abbrev S1024x13824 : Shape := ⟨2, ![1024, 13824]⟩
abbrev S1024x1 : Shape := ⟨2, ![1024, 1]⟩
abbrev S13824x512 : Shape := ⟨2, ![13824, 512]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S6x2048x13824, .fp8e4m3⟩
  | .hbm, ⟨1, _⟩ => ⟨S6x2048x1, .f32⟩
  | .hbm, ⟨2, _⟩ => ⟨S13824x5120, .fp8e4m3⟩
  | .hbm, ⟨3, _⟩ => ⟨S5120, .f32⟩
  | .hbm, ⟨4, _⟩ => ⟨S6x2048x5120, .bf16⟩
  | .hbm, ⟨5, _⟩ => ⟨S12288x13824, .fp8e4m3⟩
  | .hbm, ⟨6, _⟩ => ⟨S12288x1, .f32⟩
  | .hbm, ⟨7, _⟩ => ⟨S1x5120, .f32⟩
  | .hbm, ⟨8, _⟩ => ⟨S12288x5120, .bf16⟩
  | .hbm, ⟨9, _⟩ => ⟨S12288x5120, .bf16⟩
  | .hbm, ⟨10, _⟩ => ⟨S6x2048x5120, .bf16⟩
  | .local _ .vmem, ⟨0, _⟩ => ⟨S1024x13824, .fp8e4m3⟩
  | .local _ .vmem, ⟨1, _⟩ => ⟨S1024x13824, .fp8e4m3⟩
  | .local _ .vmem, ⟨2, _⟩ => ⟨S1024x1, .f32⟩
  | .local _ .vmem, ⟨3, _⟩ => ⟨S1024x1, .f32⟩
  | .local _ .vmem, ⟨4, _⟩ => ⟨S13824x512, .fp8e4m3⟩
  | .local _ .vmem, ⟨5, _⟩ => ⟨S13824x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S6x2048x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x13824 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S13824x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x2048x13824 : Shape := ⟨3, ![6, 2048, 13824]⟩
abbrev S6x2048x1 : Shape := ⟨3, ![6, 2048, 1]⟩
abbrev S13824x5120 : Shape := ⟨2, ![13824, 5120]⟩
abbrev S5120 : Shape := ⟨1, ![5120]⟩
abbrev S6x2048x5120 : Shape := ⟨3, ![6, 2048, 5120]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S6x2048x13824, .fp8e4m3⟩
  | .hbm, ⟨1, _⟩ => ⟨S6x2048x1, .f32⟩
  | .hbm, ⟨2, _⟩ => ⟨S13824x5120, .fp8e4m3⟩
  | .hbm, ⟨3, _⟩ => ⟨S5120, .f32⟩
  | .hbm, ⟨4, _⟩ => ⟨S6x2048x5120, .bf16⟩
  | .hbm, ⟨5, _⟩ => ⟨S6x2048x5120, .bf16⟩
  | .local _ .vmem, ⟨0, _⟩ => ⟨S6x2048x13824, .fp8e4m3⟩
  | .local _ .vmem, ⟨1, _⟩ => ⟨S6x2048x1, .f32⟩
  | .local _ .vmem, ⟨2, _⟩ => ⟨S13824x5120, .fp8e4m3⟩
  | .local _ .vmem, ⟨3, _⟩ => ⟨S5120, .f32⟩
  | .local _ .vmem, ⟨4, _⟩ => ⟨S6x2048x5120, .bf16⟩
  | .local _ .vmem, ⟨5, _⟩ => ⟨S6x2048x5120, .bf16⟩
  | _, _ => ⟨S6x2048x13824, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x2048x13824 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  Hand-written, untrusted. WHAT ONE GRID POINT COMPUTES over the extended reals, and from it the array that the
  kernel's region leaves: every element is the inner product of a token's codes with an output channel's codes, times
  the token's scale, times the channel's scale, plus the residual.
-/
module

public import proofs.«01_k».proof.Proof.Gen.KernelIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen

variable (m : (ℓ : Loc nD τ sig) → Buf (Elt Ideal) ℓ)

/-- The down projection over flat tokens: for token `j 0` and output channel `j 1`, the inner product of the codes over
    the 13824 features, times the token's scale, times the channel's scale, plus the residual. -/
def flat (X : FVec Ideal S12288x13824 .fp8e4m3) (XS : FVec Ideal S12288x1 .f32) (W : FVec Ideal S13824x5120 .fp8e4m3)
    (WS : FVec Ideal S1x5120 .f32) (R : FVec Ideal S12288x5120 .bf16) : FVec Ideal S12288x5120 .bf16 :=
  fun j => (∑ k : Fin 13824, X (ix2 (n0 := 12288) (j 0) k) * W (ix2 (n1 := 5120) k (j 1))) * XS (ix2 (n0 := 12288) (j 0) 0)
    * WS (ix2 (n1 := 5120) 0 (j 1)) + R j

/-- The index maps at every grid point: the token windows move with the outer coordinate, the channel windows with the
    inner one, the residual's and the result's with both. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- ONE POINT: what the body stores at block index `y` of point `t` is the down projection of the region's arrays, at
    the array index where `y` sits. -/
theorem point (c : Dev nD) (t : Fin cfg0.N) (y : S1024x512.Idx) :
    k0_pay1 (F := Ideal) (iblk m c 0 t) (iblk m c 2 t) (iblk m c 1 t) (iblk m c 3 t) (iblk m c 4 t) y
      = flat (V m c main_v0) (V m c main_v1) (V m c main_arg2) (V m c main_v2) (V m c main_v3)
          (((cfg0.win 5).blk t).view.emb y) := by
  pointwise [k0_pay1, flat]
  blk_point [iblk, idx t]

/-- THE REGION'S ARRAY after the run is the down projection of the arrays that the region finds. -/
theorem final (c : Dev nD) : Value.reg_main_v4 m c
    = flat (V m c main_v0) (V m c main_v1) (V m c main_arg2) (V m c main_v2) (V m c main_v3) := by
  unfold Value.reg_main_v4
  refine (dats m 0 c).arrAt_eq_of_covers 5 _ (by decide +kernel) fun t _ y => ?_
  blk_simp
  rw [after0_5]; frame_out
  exact point m c t y

end Cert.KernelIdeal.BlockValue

end
-- ==== Proof.Equation.lean ====
/-
  Hand-written, untrusted. THE EQUATION between the two programs over the extended reals. The kernel flattens the batch
  and the sequence axes into one token axis on the host, and unflattens its result; read at batch `b`, position `s` and
  channel `n`, token `2048 · b + s` of the flat arrays is token `(b, s)` of the arguments, so the kernel's result is the
  reference's.
-/
module

public import proofs.«01_k».proof.Proof.Block
public import proofs.«01_k».proof.Proof.Gen.ReferenceIdeal.Value

@[expose] public section

set_option maxRecDepth 16384

noncomputable section

open Idealize.ShloMosaic Idealize.ShloMosaic.TcCoe Idealize.SL.Sem

namespace Cert.Proof.Equation

/-- The down projection by batch, position and channel: the inner product of the codes over the 13824 features, times
    the token's scale, times the channel's scale, plus the residual. -/
def proj (x : FVec Ideal Cert.KernelIdeal.S6x2048x13824 .fp8e4m3) (xs : FVec Ideal Cert.KernelIdeal.S6x2048x1 .f32)
    (w : FVec Ideal Cert.KernelIdeal.S13824x5120 .fp8e4m3) (ws : FVec Ideal Cert.KernelIdeal.S5120 .f32)
    (res : FVec Ideal Cert.KernelIdeal.S6x2048x5120 .bf16) (b : Fin 6) (s : Fin 2048) (n : Fin 5120) : EReal :=
  (∑ k : Fin 13824, x (ix3 b s k) * w (ix2 k n)) * xs (ix3 b s 0) * ws (ix1 n) + res (ix3 b s n)

/-- WHAT THE REFERENCE COMPUTES at batch `b`, position `s` and channel `n`. -/
theorem ref_apply (x : FVec Ideal Cert.ReferenceIdeal.S6x2048x13824 .fp8e4m3) (xs : FVec Ideal Cert.ReferenceIdeal.S6x2048x1 .f32)
    (w : FVec Ideal Cert.ReferenceIdeal.S13824x5120 .fp8e4m3) (ws : FVec Ideal Cert.ReferenceIdeal.S5120 .f32)
    (res : FVec Ideal Cert.ReferenceIdeal.S6x2048x5120 .bf16) (b : Fin 6) (s : Fin 2048) (n : Fin 5120) :
    Cert.ReferenceIdeal.Gen.k0_pay1 (F := Ideal) x w xs ws res (ix3 b s n) = proj x xs w ws res b s n := by
  pointwise [Cert.ReferenceIdeal.Gen.k0_pay1, proj]

section
open Cert.KernelIdeal Cert.KernelIdeal.Gen

/-- WHAT THE KERNEL RETURNS at batch `b`, position `s` and channel `n`: the flat projection of the flattened arguments,
    unflattened, is the projection. -/
theorem kernel_apply (x : FVec Ideal S6x2048x13824 .fp8e4m3) (xs : FVec Ideal S6x2048x1 .f32)
    (w : FVec Ideal S13824x5120 .fp8e4m3) (ws : FVec Ideal S5120 .f32) (res : FVec Ideal S6x2048x5120 .bf16)
    (b : Fin 6) (s : Fin 2048) (n : Fin 5120) :
    shapeCast S6x2048x5120 (BlockValue.flat (shapeCast S12288x13824 x shapeCasts_S6x2048x13824_S12288x13824)
        (shapeCast S12288x1 xs shapeCasts_S6x2048x1_S12288x1) w (shapeCast S1x5120 ws shapeCasts_S5120_S1x5120)
        (shapeCast S12288x5120 res shapeCasts_S6x2048x5120_S12288x5120)) shapeCasts_S12288x5120_S6x2048x5120 (ix3 b s n)
      = proj x xs w ws res b s n := by
  pointwise [BlockValue.flat, proj]

variable (m : (ℓ : Loc nD τ sig) → Buf (Elt Ideal) ℓ)

/-- The region finds the codes of the tokens flattened, -/
theorem entry_x (c : Dev nD) : V m c main_v0
    = shapeCast S12288x13824 (m ((c : Thread nD τ).loc main_arg0)) shapeCasts_S6x2048x13824_S12288x13824 := by
  show StableHlo.after (List.flatten [hostOps0]) (fun b => m (c, b)) _ = _
  simp only [hostOps0, List.flatten_cons, List.flatten_nil, List.append_nil]
  after_results
  rfl
/-- and their scales, -/
theorem entry_xs (c : Dev nD) : V m c main_v1
    = shapeCast S12288x1 (m ((c : Thread nD τ).loc main_arg1)) shapeCasts_S6x2048x1_S12288x1 := by
  show StableHlo.after (List.flatten [hostOps0]) (fun b => m (c, b)) _ = _
  simp only [hostOps0, List.flatten_cons, List.flatten_nil, List.append_nil]
  after_results
  rfl
/-- the channels' scales as one row, -/
theorem entry_ws (c : Dev nD) : V m c main_v2
    = shapeCast S1x5120 (m ((c : Thread nD τ).loc main_arg3)) shapeCasts_S5120_S1x5120 := by
  show StableHlo.after (List.flatten [hostOps0]) (fun b => m (c, b)) _ = _
  simp only [hostOps0, List.flatten_cons, List.flatten_nil, List.append_nil]
  after_results
  rfl
/-- and the residual flattened. -/
theorem entry_res (c : Dev nD) : V m c main_v3
    = shapeCast S12288x5120 (m ((c : Thread nD τ).loc main_arg4)) shapeCasts_S6x2048x5120_S12288x5120 := by
  show StableHlo.after (List.flatten [hostOps0]) (fun b => m (c, b)) _ = _
  simp only [hostOps0, List.flatten_cons, List.flatten_nil, List.append_nil]
  after_results
  rfl

/-- THE EQUATION: the kernel's result is the reference's, of the same arguments. -/
theorem result_eq (c : Dev nD) :
    shapeCast S6x2048x5120 (Value.reg_main_v4 m c) shapeCasts_S12288x5120_S6x2048x5120
      = Cert.ReferenceIdeal.Value.G5 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [BlockValue.final, entry_x, entry_xs, entry_ws, entry_res, V_main_arg2]
  funext j
  obtain ⟨b, s, n, rfl⟩ : ∃ (b : Fin 6) (s : Fin 2048) (n : Fin 5120), j = ix3 b s n := ⟨j 0, j 1, j 2, eq_ix3 j⟩
  exact (kernel_apply _ _ _ _ _ b s n).trans (ref_apply _ _ _ _ _ b s n).symm

end

end Cert.Proof.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Run
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- From memories that agree on the arguments both programs run, end with the same result array, and leave their
    arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Value.run m g, (θ_run _ _ _).mono (fun r h c => ?_) (Cert.ReferenceIdeal.Value.run m' g')⟩
  refine ⟨(h c).1.trans ?_, (h c).2⟩
  rw [(hagree c).1, (hagree c).2.1, (hagree c).2.2.1, (hagree c).2.2.2.1, (hagree c).2.2.2.2]
  exact (Equation.result_eq m c).symm

/-- Everything this certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
